-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_domain [hPre_domain : Cert.Pre_domain.Facts] (m : (ℓ : Loc Cert.KernelIdeal.nD Cert.KernelIdeal.τ Cert.KernelIdeal.sig) → Buf (Elt Ideal) ℓ) : Prop :=
  ∀ c : Dev Cert.KernelIdeal.nD,
    (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_domain [hPre_domain : Cert.Pre_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_domain [hKernelIdeal : Cert.KernelIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_domain [hReferenceIdeal : Cert.ReferenceIdeal.Facts] [hPre_domain : Cert.Pre_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)

def algebraic_KernelIdeal_ReferenceIdeal_pre_domain [hKernelIdeal : Cert.KernelIdeal.Facts] [hReferenceIdeal : Cert.ReferenceIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_domain : Cert.Pre_domain.Facts),
    quiescent_Kernel (hKernel := hKernel)
    ∧ quiescent_KernelIdeal (hKernelIdeal := hKernelIdeal)
    ∧ quiescent_KernelIdeal_pre_domain (hKernelIdeal := hKernelIdeal) (hPre_domain := hPre_domain)
    ∧ quiescent_ReferenceIdeal (hReferenceIdeal := hReferenceIdeal)
    ∧ quiescent_ReferenceIdeal_pre_domain (hReferenceIdeal := hReferenceIdeal) (hPre_domain := hPre_domain)
    ∧ preserves_Kernel_KernelIdeal
    ∧ algebraic_KernelIdeal_ReferenceIdeal_pre_domain (hKernelIdeal := hKernelIdeal) (hReferenceIdeal := hReferenceIdeal) (hPre_domain := hPre_domain)
-- ==== Pre_domain.lean ====
abbrev S8x16384x128 : Shape := ⟨3, ![8, 16384, 128]⟩
abbrev S128 : Shape := ⟨1, ![128]⟩
abbrev S_ : Shape := ⟨0, ![]⟩

class Facts : Prop where
  bcast_S_S8x16384x128 : S_.BroadcastsInDim S8x16384x128 (![] : Fin 0 → Fin S8x16384x128.rank)
  reducesTo_S8x16384x128_S_d0_1_2 : S8x16384x128.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_arg3 : FVec F S128 .f32) (main_v14 : IVec S_ 1) (main_cst_6 : FVec F S_ .f32) : IVec S_ 1 :=
  let main_v15 : FVec F S128 .f32 := broadcastInDim S128 ![] bcast_S_S128 main_cst_6
  let main_v16 : IVec S128 1 := cmpf .oeq main_arg3 main_v15
  let main_c_7 : IVec S_ 1 := constantI S_ 1 1#1
  let main_v17 : IVec S_ 1 := (fun x v => Host.reduce IntOp.andi x v reducesTo_S128_S_d0 h_S_) main_v16 main_c_7
  let main_v18 : IVec S_ 1 := andi main_v14 main_v17
  main_v18

def fn {F : FTy → Type} [FloatOps F] (main_arg0 : FVec F S8x16384x128 .f32) (main_arg1 : FVec F S128 .f32) (main_arg2 : FVec F S128 .f32) (main_arg3 : FVec F S128 .f32) : IVec S_ 1 :=
  let main_cst : FVec F S_ .f32 := constant S_ .f32 0x00000000#32
  let main_v0 : FVec F S8x16384x128 .f32 := broadcastInDim S8x16384x128 ![] bcast_S_S8x16384x128 main_cst
  let main_v1 : IVec S8x16384x128 1 := cmpf .oge main_arg0 main_v0
  let main_c : IVec S_ 1 := constantI S_ 1 1#1
  let main_v2 : IVec S_ 1 := (fun x v => Host.reduce IntOp.andi x v reducesTo_S8x16384x128_S_d0_1_2 h_S_) main_v1 main_c
  let main_cst_0 : FVec F S_ .f32 := constant S_ .f32 0x7F800000#32
  let main_v3 : FVec F S8x16384x128 .f32 := broadcastInDim S8x16384x128 ![] bcast_S_S8x16384x128 main_cst_0
  let main_v4 : IVec S8x16384x128 1 := cmpf .olt main_arg0 main_v3
  let main_c_1 : IVec S_ 1 := constantI S_ 1 1#1
  let main_v5 : IVec S_ 1 := (fun x v => Host.reduce IntOp.andi x v reducesTo_S8x16384x128_S_d0_1_2 h_S_) main_v4 main_c_1
  let main_v6 : IVec S_ 1 := andi main_v2 main_v5
  let main_cst_2 : FVec F S_ .f32 := constant S_ .f32 0xFF800000#32
  let main_v7 : FVec F S128 .f32 := broadcastInDim S128 ![] bcast_S_S128 main_cst_2
  let main_v8 : IVec S128 1 := cmpf .ogt main_arg1 main_v7
  let main_c_3 : IVec S_ 1 := constantI S_ 1 1#1
  let main_v9 : IVec S_ 1 := (fun x v => Host.reduce IntOp.andi x v reducesTo_S128_S_d0 h_S_) main_v8 main_c_3
  let main_v10 : IVec S_ 1 := andi main_v6 main_v9
  let main_cst_4 : FVec F S_ .f32 := constant S_ .f32 0x00000000#32
  let main_v11 : FVec F S128 .f32 := broadcastInDim S128 ![] bcast_S_S128 main_cst_4
  let main_v12 : IVec S128 1 := cmpf .oge main_arg2 main_v11
  let main_c_5 : IVec S_ 1 := constantI S_ 1 1#1
  let main_v13 : IVec S_ 1 := (fun x v => Host.reduce IntOp.andi x v reducesTo_S128_S_d0 h_S_) main_v12 main_c_5
  let main_v14 : IVec S_ 1 := andi main_v10 main_v13
  let main_cst_6 : FVec F S_ .f32 := constant S_ .f32 0x40000000#32
  fn_part1 (F := F) main_arg3 main_v14 main_cst_6
-- ==== Kernel.lean ====
abbrev S8x16384x128 : Shape := ⟨3, ![8, 16384, 128]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x16384x128 : Shape := ⟨3, ![1, 16384, 128]⟩
abbrev S1x1x128 : Shape := ⟨3, ![1, 1, 128]⟩
abbrev S1x128x128 : Shape := ⟨3, ![1, 128, 128]⟩

abbrev nBuf : Space → Nat
  | .hbm => 41
  | .vmem => 8
  | .smem => 0
  | _ => 0

abbrev bufTy : (tb : Table) → Fin (tcTables nBuf tb) → BufTy
  | .hbm, ⟨0, _⟩ => ⟨S8x16384x128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S128, .i32⟩
  | .hbm, ⟨10, _⟩ => ⟨S128x1, .i32⟩
  | .hbm, ⟨11, _⟩ => ⟨S1x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .f32⟩
  | .hbm, ⟨16, _⟩ => ⟨S_, .f32⟩
  | .hbm, ⟨17, _⟩ => ⟨S128x128, .f32⟩
  | .hbm, ⟨18, _⟩ => ⟨S128x128, .i1⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S_, .f32⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128x1, .f32⟩
  | .hbm, ⟨37, _⟩ => ⟨S128x128, .bf16⟩
  | .hbm, ⟨38, _⟩ => ⟨S1x128, .f32⟩
  | .hbm, ⟨39, _⟩ => ⟨S1x128, .f32⟩
  | .hbm, ⟨40, _⟩ => ⟨S8x16384x128, .f32⟩
  | .local _ .vmem, ⟨0, _⟩ => ⟨S1x16384x128, .f32⟩
  | .local _ .vmem, ⟨1, _⟩ => ⟨S1x16384x128, .f32⟩
  | .local _ .vmem, ⟨2, _⟩ => ⟨S128x128, .bf16⟩
  | .local _ .vmem, ⟨3, _⟩ => ⟨S128x1, .f32⟩
  | .local _ .vmem, ⟨4, _⟩ => ⟨S1x128, .f32⟩
  | .local _ .vmem, ⟨5, _⟩ => ⟨S1x128, .f32⟩
  | .local _ .vmem, ⟨6, _⟩ => ⟨S1x16384x128, .f32⟩
  | .local _ .vmem, ⟨7, _⟩ => ⟨S1x16384x128, .f32⟩
  | _, _ => ⟨S8x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_cst_0 : Ref sig .tc := ⟨.hbm, 5, rfl⟩
abbrev main_call0_v0 : Ref sig .tc := ⟨.hbm, 6, rfl⟩
abbrev main_call0_cst_1 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_cst_2 : Ref sig .tc := ⟨.hbm, 16, rfl⟩
abbrev main_call0_v9 : Ref sig .tc := ⟨.hbm, 17, rfl⟩
abbrev main_call0_v10 : Ref sig .tc := ⟨.hbm, 18, rfl⟩
abbrev main_call0_cst_3 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_cst_4 : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_v17 : Ref sig .tc := ⟨.hbm, 29, rfl⟩
abbrev main_call0_v18 : Ref sig .tc := ⟨.hbm, 30, rfl⟩
abbrev main_call0_cst_5 : Ref sig .tc := ⟨.hbm, 31, rfl⟩
abbrev main_call0_v19 : Ref sig .tc := ⟨.hbm, 32, rfl⟩
abbrev main_call0_v20 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_v0 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x16384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "neg_log2_e" => some ((-((Real.log 2)⁻¹) : ℝ) : EReal)
  | _ => none
-- ==== ReferenceIdeal.lean ====
abbrev S8x16384x128 : Shape := ⟨3, ![8, 16384, 128]⟩
abbrev S128 : Shape := ⟨1, ![128]⟩
abbrev S_ : Shape := ⟨0, ![]⟩
abbrev S16384x8x128 : Shape := ⟨3, ![16384, 8, 128]⟩
abbrev S1x8x128 : Shape := ⟨3, ![1, 8, 128]⟩
abbrev S8x128 : Shape := ⟨2, ![8, 128]⟩
abbrev S16383x8x128 : Shape := ⟨3, ![16383, 8, 128]⟩
abbrev S1x1x128 : Shape := ⟨3, ![1, 1, 128]⟩

abbrev nBuf : Space → Nat
  | .hbm => 67
  | .vmem => 0
  | .smem => 0
  | _ => 0

abbrev bufTy : (tb : Table) → Fin (tcTables nBuf tb) → BufTy
  | .hbm, ⟨0, _⟩ => ⟨S8x16384x128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384x8x128, .f32⟩
  | .hbm, ⟨14, _⟩ => ⟨S1x8x128, .f32⟩
  | .hbm, ⟨15, _⟩ => ⟨S8x128, .f32⟩
  | .hbm, ⟨16, _⟩ => ⟨S16383x8x128, .f32⟩
  | .hbm, ⟨17, _⟩ => ⟨S_, .f32⟩
  | .hbm, ⟨18, _⟩ => ⟨S16383x8x128, .f32⟩
  | .hbm, ⟨19, _⟩ => ⟨S_, .i32⟩
  | .hbm, ⟨20, _⟩ => ⟨S16383x8x128, .f32⟩
  | .hbm, ⟨21, _⟩ => ⟨S_, .f32⟩
  | .hbm, ⟨22, _⟩ => ⟨S_, .i32⟩
  | .hbm, ⟨23, _⟩ => ⟨S8x128, .f32⟩
  | .hbm, ⟨24, _⟩ => ⟨S16383x8x128, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S1x8x128, .f32⟩
  | .hbm, ⟨30, _⟩ => ⟨S8x128, .f32⟩
  | .hbm, ⟨31, _⟩ => ⟨S8x128, .f32⟩
  | .hbm, ⟨32, _⟩ => ⟨S8x128, .f32⟩
  | .hbm, ⟨33, _⟩ => ⟨S_, .f32⟩
  | .hbm, ⟨34, _⟩ => ⟨S_, .f32⟩
  | .hbm, ⟨35, _⟩ => ⟨S8x128, .f32⟩
  | .hbm, ⟨36, _⟩ => ⟨S8x128, .f32⟩
  | .hbm, ⟨37, _⟩ => ⟨S8x128, .f32⟩
  | .hbm, ⟨38, _⟩ => ⟨S1x8x128, .f32⟩
  | .hbm, ⟨39, _⟩ => ⟨S_, .i32⟩
  | .hbm, ⟨40, _⟩ => ⟨S_, .i32⟩
  | .hbm, ⟨41, _⟩ => ⟨S16383x8x128, .f32⟩
  | .hbm, ⟨42, _⟩ => ⟨S_, .i32⟩
  | .hbm, ⟨43, _⟩ => ⟨S_, .i32⟩
  | .hbm, ⟨44, _⟩ => ⟨S1x8x128, .f32⟩
  | .hbm, ⟨45, _⟩ => ⟨S16384x8x128, .f32⟩
  | .hbm, ⟨46, _⟩ => ⟨S8x16384x128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S_, .f32⟩
  | .hbm, ⟨51, _⟩ => ⟨S8x16384x128, .f32⟩
  | .hbm, ⟨52, _⟩ => ⟨S8x16384x128, .f32⟩
  | .hbm, ⟨53, _⟩ => ⟨S1x1x128, .f32⟩
  | .hbm, ⟨54, _⟩ => ⟨S8x16384x128, .f32⟩
  | .hbm, ⟨55, _⟩ => ⟨S8x16384x128, .f32⟩
  | .hbm, ⟨56, _⟩ => ⟨S8x16384x128, .f32⟩
  | .hbm, ⟨57, _⟩ => ⟨S1x1x128, .f32⟩
  | .hbm, ⟨58, _⟩ => ⟨S8x16384x128, .f32⟩
  | .hbm, ⟨59, _⟩ => ⟨S8x16384x128, .f32⟩
  | .hbm, ⟨60, _⟩ => ⟨S1x1x128, .f32⟩
  | .hbm, ⟨61, _⟩ => ⟨S8x16384x128, .f32⟩
  | .hbm, ⟨62, _⟩ => ⟨S8x16384x128, .f32⟩
  | .hbm, ⟨63, _⟩ => ⟨S128, .f32⟩
  | .hbm, ⟨64, _⟩ => ⟨S1x1x128, .f32⟩
  | .hbm, ⟨65, _⟩ => ⟨S8x16384x128, .f32⟩
  | .hbm, ⟨66, _⟩ => ⟨S8x16384x128, .f32⟩
  | _, _ => ⟨S8x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_c : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_while0c_c_10 : Ref sig .tc := ⟨.hbm, 25, rfl⟩
abbrev main_while0c_v32 : Ref sig .tc := ⟨.hbm, 26, rfl⟩
abbrev main_while0b_call0_c : Ref sig .tc := ⟨.hbm, 27, rfl⟩
abbrev main_while0b_call0_c_0 : Ref sig .tc := ⟨.hbm, 28, rfl⟩
abbrev main_while0b_call0_v0 : Ref sig .tc := ⟨.hbm, 29, rfl⟩
abbrev main_while0b_v32 : Ref sig .tc := ⟨.hbm, 30, rfl⟩
abbrev main_while0b_v33 : Ref sig .tc := ⟨.hbm, 31, rfl⟩
abbrev main_while0b_v34 : Ref sig .tc := ⟨.hbm, 32, rfl⟩
abbrev main_while0b_cst_10 : Ref sig .tc := ⟨.hbm, 33, rfl⟩
abbrev main_while0b_v35 : Ref sig .tc := ⟨.hbm, 34, rfl⟩
abbrev main_while0b_v36 : Ref sig .tc := ⟨.hbm, 35, rfl⟩
abbrev main_while0b_v37 : Ref sig .tc := ⟨.hbm, 36, rfl⟩
abbrev main_while0b_v38 : Ref sig .tc := ⟨.hbm, 37, rfl⟩
abbrev main_while0b_call1_v0 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_v39 : Ref sig .tc := ⟨.hbm, 41, rfl⟩
abbrev main_while0b_c_11 : Ref sig .tc := ⟨.hbm, 42, rfl⟩
abbrev main_while0b_v40 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_4 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩

abbrev nD : Nat := 1
abbrev τ : Topo := Topo.v7x

variable {F : FTy → Type} [FloatOps F]

abbrev main_while0_count : Scf.Loop 32 := ⟨0#32, 16383#32, 1#32⟩
-- ==== Proof.Blocks.lean ====
/- The block the kernel stores at one grid point, as 128 row chunks of one form: chunk `q` smooths its 128 rows from the
   row carried into it and compresses them. -/
module

public import proofs.«01_k».proof.Proof.Gen.KernelIdeal.Frame

@[expose] public section

set_option maxRecDepth 16384

noncomputable section

namespace Cert.KernelIdeal.Chunks

open Cert.KernelIdeal Cert.KernelIdeal.Gen Idealize.ShloMosaic Idealize.ShloMosaic.TcCoe Idealize.SL.Sem

variable {F : FTy → Type} [FloatOps F] [Named F]

/-- The rows of chunk `q` lie inside the block. -/
theorem rows_inb (q : ℕ) (a : Fin S1x16384x128.rank) : (![0, 128 * (q % 128), 0] : Fin 3 → ℕ) a + S1x128x128.size a ≤ S1x16384x128.size a := by
  have h0 : 0 + 1 ≤ 1 := le_rfl
  have h1 : 128 * (q % 128) + 128 ≤ 16384 := by omega
  have h2 : 0 + 128 ≤ 128 := le_rfl
  exact Fin.cases h0 (fun a => Fin.cases h1 (fun a => Fin.cases h2 (fun a => a.elim0) a) a) a

/-- The 128 rows of chunk `q` of the block. -/
abbrev rows (q : ℕ) : Rect S1x16384x128 := Rect.unit (s := S1x16384x128) ![0, 128 * (q % 128), 0] S1x128x128.size (rows_inb q)

/-- Chunk `q` of the input block, as a 128 × 128 array. -/
def chunk (x : Vec F S1x16384x128 .f32) (q : ℕ) : FVec F S128x128 .f32 :=
  shapeCast S128x128 (View.ld x (rows q)) shapeCasts_S1x128x128_S128x128

/-- A chunk smoothed: the weights of its own rows against it, plus the decay of each row times the row carried in. -/
def smooth (M : FVec F S128x128 .bf16) (v : FVec F S128x1 .f32) (xs : FVec F S128x128 .f32) (e : FVec F S1x128 .f32) : FVec F S128x128 .f32 :=
  addf (matmul dot_S128x128_S128x128_S128x128_1_0_0_1_n_n none M (truncf .bf16 xs bitsLt_bf16_f32) (constant S128x128 .f32 0x00000000#32))
    (mulf (broadcastTo S128x128 v broadcasts_S128x1_S128x128) (broadcastTo S128x128 e broadcasts_S1x128_S128x128))

/-- The row a smoothed chunk hands to the next one: its last. -/
def lastRow (y : FVec F S128x128 .f32) : FVec F S1x128 .f32 := extractStridedSlice S1x128 ![127, 0] y slices_S128x128_o127_0_S1x128

/-- The row carried into chunk `q`: `e` into the first, then each chunk's last smoothed row into the next. -/
def carry (M : FVec F S128x128 .bf16) (v : FVec F S128x1 .f32) (e : FVec F S1x128 .f32) (xs : ℕ → FVec F S128x128 .f32) (q : ℕ) : FVec F S1x128 .f32 :=
  Nat.rec e (fun q r => lastRow (smooth M v (xs q) r)) q

/-- Each element of a chunk over the power of its smoothed value, plus the offset. -/
def base (na d : FVec F S1x128 .f32) (xs y : FVec F S128x128 .f32) : FVec F S128x128 .f32 :=
  addf (mulf xs (exp2 (mulf (broadcastTo S128x128 na broadcasts_S1x128_S128x128) (log (addf (broadcast S128x128 (Scalar.ofBits .f32 0x358637BD#32)) y)))))
    (broadcastTo S128x128 d broadcasts_S1x128_S128x128)

/-- A chunk compressed: the root of that, less the root of the offset, as the block stores it. -/
def squash (na d sd : FVec F S1x128 .f32) (xs y : FVec F S128x128 .f32) : FVec F S1x128x128 .f32 :=
  shapeCast S1x128x128 (subf (mulf (base na d xs y) (rsqrt (base na d xs y))) (broadcastTo S128x128 sd broadcasts_S1x128_S128x128)) shapeCasts_S128x128_S1x128x128

/-- The stores of the chunks `0, …, n - 1`, last first. -/
def stores (M : FVec F S128x128 .bf16) (v : FVec F S128x1 .f32) (e na d sd : FVec F S1x128 .f32) (xs : ℕ → FVec F S128x128 .f32) (n : ℕ) :
    List (View.Piece (Elt F) S1x16384x128 .f32) :=
  Nat.rec [] (fun q L => ⟨rows q, squash na d sd (xs q) (smooth M v (xs q) (carry M v e xs q))⟩ :: L) n

/-- The block the body leaves is its 128 chunks, each smoothed from the row carried into it and compressed. -/
theorem out_eq (x0 : Vec F S1x16384x128 .f32) (x1 : Vec F S128x128 .bf16) (x2 : Vec F S128x1 .f32) (x3 x4 : Vec F S1x128 .f32) :
    out0_5 x0 x1 x2 x3 x4 = View.canon (stores (k0_pay4 (View.ld x1 r0_1)) (k0_pay5 (View.ld x2 r0_2)) (k0_pay6 (View.ld x0 r0_3))
      (k0_pay1 (View.ld x3 r0_0)) (k0_pay2 (View.ld x4 r0_0)) (k0_pay3 (View.ld x4 r0_0)) (chunk x0) 128) := by
  with_unfolding_all exact rfl

end Cert.KernelIdeal.Chunks

end
-- ==== Proof.Pcen.lean ====
/- The compression of one element: the kernel's form, through a base-two exponential and a reciprocal root, against the
   reference's two powers. -/
module

public import Idealize.ShloMosaic.PureOps.Ideal
public import Mathlib.Tactic.FieldSimp
public import Mathlib.Tactic.Ring

@[expose] public section

noncomputable section

namespace Cert.Pcen

open Idealize.ShloMosaic

/-- Two to the power `a · (-1/ln 2) · ln u` is the inverse of `u` to the power `a`. -/
theorem exp2_log (a u : ℝ) (hu : 0 < u) :
    Ideal.exp2 (((a : EReal) * ((-((Real.log 2)⁻¹) : ℝ) : EReal)) * Ideal.log (u : EReal)) = (((u ^ a)⁻¹ : ℝ) : EReal) := by
  have h2 : Real.log 2 ≠ 0 := (Real.log_pos (by norm_num)).ne'
  rw [Ideal.log_coe, if_neg (not_le.mpr hu), ← EReal.coe_mul, ← EReal.coe_mul, Ideal.exp2_coe]
  congr 1
  show (2 : ℝ) ^ (a * -(Real.log 2)⁻¹ * Real.log u) = _
  rw [← Real.rpow_neg hu.le, Real.rpow_def_of_pos (by norm_num : (0 : ℝ) < 2), Real.rpow_def_of_pos hu]
  congr 1
  field_simp

/-- A real over a positive real. -/
theorem div_pos_coe (x w : ℝ) (hw : 0 < w) : Ideal.div (x : EReal) (w : EReal) = ((x * w⁻¹ : ℝ) : EReal) := by
  rw [Ideal.div_coe hw.ne', ← EReal.coe_mul, one_div]

/-- A nonnegative value times its reciprocal root is its square root. -/
theorem mul_rsqrt (b : ℝ) (hb : 0 ≤ b) : (b : EReal) * Ideal.rsqrt (b : EReal) = ((Real.sqrt b : ℝ) : EReal) := by
  rw [Ideal.rsqrt_coe, if_neg (not_lt.mpr hb)]
  by_cases h : b = 0
  · subst h; simp
  · rw [if_neg h, ← EReal.coe_mul]
    congr 1
    have hs : Real.sqrt b ≠ 0 := (Real.sqrt_pos.mpr (lt_of_le_of_ne hb (Ne.symm h))).ne'
    field_simp
    exact (Real.sq_sqrt hb).symm

/-- The power one half of a nonnegative real. -/
theorem pow_half (b : ℝ) : Ideal.pow (b : EReal) ((1 / 2 : ℝ) : EReal) = ((Real.sqrt b : ℝ) : EReal) := by
  rw [Ideal.pow_coe_coe]
  congr 1
  show b ^ (1 / 2 : ℝ) = _
  rw [Real.sqrt_eq_rpow]

/-- The compression of one element `x ≥ 0` over a smoothed value with floor `u > 0`: the kernel's form equals the
    reference's, for any real exponent `a` and any offset `δ ≥ 0`, an infinite one included. -/
theorem compress (x u a : ℝ) (δ : EReal) (hx : 0 ≤ x) (hu : 0 < u) (hδ : 0 ≤ δ) :
    ((x : EReal) * Ideal.exp2 (((a : EReal) * ((-((Real.log 2)⁻¹) : ℝ) : EReal)) * Ideal.log (u : EReal)) + δ)
        * Ideal.rsqrt ((x : EReal) * Ideal.exp2 (((a : EReal) * ((-((Real.log 2)⁻¹) : ℝ) : EReal)) * Ideal.log (u : EReal)) + δ)
        - Ideal.sqrt δ
      = Ideal.pow (Ideal.div (x : EReal) (Ideal.pow (u : EReal) (a : EReal)) + δ) ((1 / 2 : ℝ) : EReal) - Ideal.pow δ ((1 / 2 : ℝ) : EReal) := by
  have hw : 0 < u ^ a := Real.rpow_pos_of_pos hu a
  have hr : 0 ≤ x * (u ^ a)⁻¹ := mul_nonneg hx (inv_nonneg.mpr hw.le)
  have hp : Ideal.pow (u : EReal) (a : EReal) = ((u ^ a : ℝ) : EReal) := rfl
  rw [exp2_log a u hu, hp, div_pos_coe x _ hw, ← EReal.coe_mul]
  induction δ with
  | bot => exact absurd hδ (by simp)
  | top =>
    have h1 : Ideal.rsqrt ⊤ = 0 := rfl
    have h2 : Ideal.sqrt ⊤ = ⊤ := rfl
    have h3 : Ideal.pow ⊤ ((1 / 2 : ℝ) : EReal) = ⊤ := if_pos (by exact_mod_cast (by norm_num : (0 : ℝ) < 1 / 2))
    rw [EReal.coe_add_top, h1, h2, h3]
    simp
  | coe d =>
    have hd : 0 ≤ d := by exact_mod_cast hδ
    rw [← EReal.coe_add, mul_rsqrt _ (add_nonneg hr hd), Ideal.sqrt_coe, if_neg (not_lt.mpr hd), pow_half, pow_half]

end Cert.Pcen

end
-- ==== Proof.Scan.lean ====
/- The smoothing recurrence on reals, its closed form, and its values on the extended reals. -/
module

public import Idealize.ShloMosaic.PureOps.Ideal
public import Mathlib.Tactic.FieldSimp
public import Mathlib.Tactic.Ring
public import Mathlib.Algebra.BigOperators.Fin

@[expose] public section

noncomputable section

namespace Cert.Scan

/-- The smoothing recurrence: from `e`, each step takes `1/25` of the next input and `24/25` of the value before. -/
def ema (x : ℕ → ℝ) (e : ℝ) : ℕ → ℝ
  | 0 => e
  | n + 1 => 1 / 25 * x n + 24 / 25 * ema x e n

/-- Smoothing on from a value reached is smoothing the later inputs from it. -/
theorem ema_add (x : ℕ → ℝ) (e : ℝ) (t n : ℕ) : ema x e (t + n) = ema (fun j => x (t + j)) (ema x e t) n := by
  induction n with
  | zero => rfl
  | succ n ih =>
    show ema x e (t + n + 1) = _
    rw [ema, ema, ih]

/-- The recurrence reads only the inputs before the step. -/
theorem ema_congr (x y : ℕ → ℝ) (e : ℝ) (n : ℕ) (h : ∀ j < n, x j = y j) : ema x e n = ema y e n := by
  induction n with
  | zero => rfl
  | succ n ih => rw [ema, ema, h n (Nat.lt_succ_self n), ih fun j hj => h j (Nat.lt_succ_of_lt hj)]

/-- Started at the first input, the first step stays there. -/
theorem ema_one (x : ℕ → ℝ) : ema x (x 0) 1 = x 0 := by
  show 1 / 25 * x 0 + 24 / 25 * x 0 = x 0
  ring

/-- Nonnegative inputs from a nonnegative start stay nonnegative. -/
theorem ema_nonneg (x : ℕ → ℝ) (e : ℝ) (hx : ∀ n, 0 ≤ x n) (he : 0 ≤ e) (n : ℕ) : 0 ≤ ema x e n := by
  induction n with
  | zero => exact he
  | succ n ih =>
    have := hx n
    rw [ema]
    positivity

/-- The weight of input `j` in the value at step `i`. -/
def weight (i j : ℕ) : ℝ := if j ≤ i then 1 / 25 * (24 / 25 : ℝ) ^ (i - j) else 0

/-- The closed form of a step: the weighted sum of the inputs up to it, and the start's decay. -/
theorem ema_closed (x : ℕ → ℝ) (e : ℝ) (i : ℕ) :
    ema x e (i + 1) = (∑ j ∈ Finset.range (i + 1), weight i j * x j) + (24 / 25 : ℝ) ^ (i + 1) * e := by
  induction i with
  | zero => simp [ema, weight]
  | succ i ih =>
    have hs : ∀ j ∈ Finset.range (i + 1), weight (i + 1) j * x j = 24 / 25 * (weight i j * x j) := by
      intro j hj
      have hj' : j ≤ i := Nat.lt_succ_iff.mp (Finset.mem_range.mp hj)
      rw [weight, weight, if_pos hj', if_pos (Nat.le_succ_of_le hj'), Nat.succ_sub hj', pow_succ]
      ring
    have hd : weight (i + 1) (i + 1) = 1 / 25 := by simp [weight]
    rw [ema, ih, Finset.sum_range_succ _ (i + 1), Finset.sum_congr rfl hs, ← Finset.mul_sum, hd, pow_succ _ (i + 1)]
    ring

/-- The closed form over a whole row of `K` weights: those past the step are zero. -/
theorem ema_row (K : ℕ) (x : ℕ → ℝ) (e : ℝ) (i : ℕ) (hi : i < K) :
    (∑ j : Fin K, weight i j * x j) + (24 / 25 : ℝ) ^ (i + 1) * e = ema x e (i + 1) := by
  rw [ema_closed, Fin.sum_univ_eq_sum_range (fun j => weight i j * x j) K]
  congr 1
  refine (Finset.sum_subset (Finset.range_mono hi) fun j _ hj => ?_).symm
  have : ¬ j ≤ i := fun h => hj (Finset.mem_range.mpr (Nat.lt_succ_of_le h))
  rw [weight, if_neg this, zero_mul]

/-- A finite sum of reals on the extended reals. -/
theorem coe_sum (K : ℕ) (f : Fin K → ℝ) : (∑ j : Fin K, ((f j : ℝ) : EReal)) = ((∑ j : Fin K, f j : ℝ) : EReal) := by
  induction K with
  | zero => simp
  | succ K ih => rw [Fin.sum_univ_succ, Fin.sum_univ_succ, ih, EReal.coe_add]

/-- The closed form on the extended reals: the sum of products a matrix row makes, and the decayed start. -/
theorem ema_row_coe (K : ℕ) (x : ℕ → ℝ) (e : ℝ) (i : ℕ) (hi : i < K) :
    (∑ j : Fin K, ((weight i j : ℝ) : EReal) * ((x j : ℝ) : EReal)) + (((24 / 25 : ℝ) ^ (i + 1) : ℝ) : EReal) * (e : EReal)
      = ((ema x e (i + 1) : ℝ) : EReal) := by
  rw [← ema_row K x e i hi, EReal.coe_add, EReal.coe_mul, ← coe_sum]
  simp only [EReal.coe_mul]

end Cert.Scan

end
-- ==== Proof.Consts.lean ====
/- The constants of the two programs as extended reals. -/
module

public import Idealize.ShloMosaic.PureOps.Ideal
public import Mathlib.Tactic.NormNum

@[expose] public section

noncomputable section

namespace Cert.Consts

open Idealize.ShloMosaic

/-- The pattern of 4. -/
theorem four : Ideal.ofBits .f32 0x40800000#32 = ((4 : ℝ) : EReal) := by simp [Ideal.ofBits, Ideal.ieee, -EReal.coe_mul]; norm_num
/-- The pattern of 100. -/
theorem hundred : Ideal.ofBits .f32 0x42C80000#32 = ((100 : ℝ) : EReal) := by simp [Ideal.ofBits, Ideal.ieee, -EReal.coe_mul]; norm_num
/-- The pattern of 1. -/
theorem one : Ideal.ofBits .f32 0x3F800000#32 = ((1 : ℝ) : EReal) := by simp [Ideal.ofBits, Ideal.ieee, -EReal.coe_mul]; norm_num
/-- The pattern of 2. -/
theorem two : Ideal.ofBits .f32 0x40000000#32 = ((2 : ℝ) : EReal) := by simp [Ideal.ofBits, Ideal.ieee, -EReal.coe_mul]; try norm_num
/-- The pattern of 0. -/
theorem zero : Ideal.ofBits .f32 0x00000000#32 = ((0 : ℝ) : EReal) := by simp [Ideal.ofBits, Ideal.ieee, -EReal.coe_mul]
/-- The pattern of the positive infinity. -/
theorem top : Ideal.ofBits .f32 0x7F800000#32 = ⊤ := by simp [Ideal.ofBits, Ideal.ieee]
/-- The pattern of the negative infinity. -/
theorem bot : Ideal.ofBits .f32 0xFF800000#32 = ⊥ := by simp [Ideal.ofBits, Ideal.ieee]

/-- The floor added to a smoothed value. -/
def floor : ℝ := 8796093 / 2 ^ 43

/-- The pattern of the floor. -/
theorem floor_bits : Ideal.ofBits .f32 0x358637BD#32 = ((floor : ℝ) : EReal) := by
  simp [Ideal.ofBits, Ideal.ieee, -EReal.coe_mul, floor]; norm_num

/-- The floor is positive. -/
theorem floor_pos : 0 < floor := by unfold floor; positivity

/-- Four hundredths. -/
theorem rate : Ideal.div ((4 : ℝ) : EReal) ((100 : ℝ) : EReal) = ((1 / 25 : ℝ) : EReal) := by
  rw [Ideal.div_coe (by norm_num), ← EReal.coe_mul]; norm_num

/-- One less four hundredths. -/
theorem decay : ((1 : ℝ) : EReal) - ((1 / 25 : ℝ) : EReal) = ((24 / 25 : ℝ) : EReal) := by
  rw [← EReal.coe_sub]; norm_num

end Cert.Consts

end
-- ==== Proof.Result.lean ====
/- The result both programs compute, as one function of the arguments. -/
module

public import proofs.«01_k».proof.Proof.Pcen
public import proofs.«01_k».proof.Proof.Scan
public import proofs.«01_k».proof.Proof.Consts
public import Idealize.ShloMosaic.Lib.Pointwise

@[expose] public section

noncomputable section

namespace Cert.Result

open Idealize.ShloMosaic

/-- One channel of one batch entry as a real sequence over time, zero past its end. -/
def series (x : (⟨3, ![8, 16384, 128]⟩ : Shape).Idx → EReal) (b : Fin 8) (l : Fin 128) (n : ℕ) : ℝ :=
  if h : n < 16384 then (x (ix3 b ⟨n, h⟩ l)).toReal else 0

/-- The smoothed value of that channel at a time, the recurrence started at the channel's first input. -/
def smoothed (x : (⟨3, ![8, 16384, 128]⟩ : Shape).Idx → EReal) (b : Fin 8) (l : Fin 128) (t : ℕ) : ℝ :=
  Scan.ema (series x b l) (series x b l 0) (t + 1)

/-- One element compressed: over the power of its floored smoothed value, offset, and rooted; less the root of the offset. -/
def compressed (x u a δ : EReal) : EReal :=
  Ideal.pow (Ideal.div x (Ideal.pow u a) + δ) ((1 / 2 : ℝ) : EReal) - Ideal.pow δ ((1 / 2 : ℝ) : EReal)

/-- The result at one batch entry, time and channel. -/
def at_ (x : (⟨3, ![8, 16384, 128]⟩ : Shape).Idx → EReal) (α δ : (⟨1, ![128]⟩ : Shape).Idx → EReal)
    (b : Fin 8) (t : Fin 16384) (l : Fin 128) : EReal :=
  compressed (x (ix3 b t l)) ((Consts.floor + smoothed x b l t : ℝ) : EReal) (min (α (ix1 l)) ((1 : ℝ) : EReal)) (δ (ix1 l))

/-- The whole result. -/
def whole (x : (⟨3, ![8, 16384, 128]⟩ : Shape).Idx → EReal) (α δ : (⟨1, ![128]⟩ : Shape).Idx → EReal) : (⟨3, ![8, 16384, 128]⟩ : Shape).Idx → EReal :=
  fun j => at_ x α δ (j 0) (j 1) (j 2)

/-- What the precondition says of the arguments, on the extended reals. -/
structure Good (x : (⟨3, ![8, 16384, 128]⟩ : Shape).Idx → EReal) (α δ root : (⟨1, ![128]⟩ : Shape).Idx → EReal) : Prop where
  /-- no input is negative, -/
  nonneg : ∀ b t l, 0 ≤ x (ix3 b t l)
  /-- none is infinite, -/
  finite : ∀ b t l, x (ix3 b t l) < ⊤
  /-- no exponent is the negative infinity, -/
  alpha : ∀ l, ⊥ < α (ix1 l)
  /-- no offset is negative, -/
  delta : ∀ l, 0 ≤ δ (ix1 l)
  /-- and every root is two. -/
  root : ∀ l, root (ix1 l) = ((2 : ℝ) : EReal)

variable {x : (⟨3, ![8, 16384, 128]⟩ : Shape).Idx → EReal} {α δ root : (⟨1, ![128]⟩ : Shape).Idx → EReal}

/-- Each input is the real its channel's sequence holds. -/
theorem Good.series_eq (h : Good x α δ root) (b : Fin 8) (t : Fin 16384) (l : Fin 128) : x (ix3 b t l) = ((series x b l t : ℝ) : EReal) := by
  rw [series, dif_pos t.isLt]
  exact (EReal.coe_toReal (h.finite b t l).ne (ne_bot_of_le_ne_bot (by simp) (h.nonneg b t l))).symm

/-- The sequence is nonnegative. -/
theorem Good.series_nonneg (h : Good x α δ root) (b : Fin 8) (l : Fin 128) (n : ℕ) : 0 ≤ series x b l n := by
  unfold series
  split
  · exact EReal.toReal_nonneg (h.nonneg _ _ _)
  · exact le_rfl

/-- So is the smoothed sequence. -/
theorem Good.smoothed_nonneg (h : Good x α δ root) (b : Fin 8) (l : Fin 128) (t : ℕ) : 0 ≤ smoothed x b l t :=
  Scan.ema_nonneg _ _ (h.series_nonneg b l) (h.series_nonneg b l 0) _

/-- The exponent, capped at one, is a real. -/
theorem Good.alpha_real (h : Good x α δ root) (l : Fin 128) : ∃ a : ℝ, min (α (ix1 l)) ((1 : ℝ) : EReal) = (a : EReal) := by
  refine ⟨(min (α (ix1 l)) ((1 : ℝ) : EReal)).toReal, (EReal.coe_toReal ?_ ?_).symm⟩
  · exact (lt_of_le_of_lt (min_le_right _ _) (EReal.coe_lt_top 1)).ne
  · exact (lt_min (h.alpha l) (EReal.bot_lt_coe 1)).ne'

/-- The kernel's form of one element is the compressed element. -/
theorem Good.kernel_form (h : Good x α δ root) (b : Fin 8) (t : Fin 16384) (l : Fin 128) :
    (x (ix3 b t l) * Ideal.exp2 ((min (α (ix1 l)) ((1 : ℝ) : EReal) * ((-((Real.log 2)⁻¹) : ℝ) : EReal)) * Ideal.log ((Consts.floor : EReal) + (smoothed x b l t : EReal))) + δ (ix1 l))
        * Ideal.rsqrt (x (ix3 b t l) * Ideal.exp2 ((min (α (ix1 l)) ((1 : ℝ) : EReal) * ((-((Real.log 2)⁻¹) : ℝ) : EReal)) * Ideal.log ((Consts.floor : EReal) + (smoothed x b l t : EReal))) + δ (ix1 l))
        - Ideal.sqrt (δ (ix1 l))
      = at_ x α δ b t l := by
  obtain ⟨a, ha⟩ := h.alpha_real l
  rw [at_, compressed, ha, h.series_eq b t l, ← EReal.coe_add]
  exact Pcen.compress _ _ a _ (h.series_nonneg b l t) (add_pos_of_pos_of_nonneg Consts.floor_pos (h.smoothed_nonneg b l t)) (h.delta l)

end Cert.Result

end
-- ==== Proof.Smooth.lean ====
/- The chunks of the kernel's block read at an index: each smoothed chunk holds the values of the one recurrence over the
   whole block. -/
module

public import proofs.«01_k».proof.Proof.Blocks
public import proofs.«01_k».proof.Proof.Result
public import Idealize.ShloMosaic.Lib.Pointwise
public import Idealize.ShloMosaic.Lib.Pipeline.ValueKit

@[expose] public section

set_option maxRecDepth 16384

noncomputable section

namespace Cert.KernelIdeal.Chunks

open Cert.KernelIdeal Cert.KernelIdeal.Gen Idealize.ShloMosaic Idealize.ShloMosaic.TcCoe Idealize.SL.Sem

/-- A smoothed chunk at a row and channel: its weights' row against the channel, and the row's decay of the value carried in. -/
theorem smooth_apply (M : FVec Ideal S128x128 .bf16) (v : FVec Ideal S128x1 .f32) (xs : FVec Ideal S128x128 .f32) (e : FVec Ideal S1x128 .f32) (i l : Fin 128) :
    smooth M v xs e (ix2 i l) = (∑ k : Fin 128, (M (ix2 i k) : EReal) * xs (ix2 k l)) + v (ix2 i 0) * e (ix2 0 l) := by
  pointwise [smooth]

/-- The row handed on is row 127. -/
theorem lastRow_apply (y : FVec Ideal S128x128 .f32) (l : Fin 128) : lastRow y (ix2 0 l) = y (ix2 127 l) := by
  pointwise [lastRow]

/-- A compressed chunk at a row and channel. -/
theorem squash_apply (na d sd : FVec Ideal S1x128 .f32) (xs y : FVec Ideal S128x128 .f32) (i l : Fin 128) :
    squash na d sd xs y (ix3 0 i l) =
      (xs (ix2 i l) * Ideal.exp2 (na (ix2 0 l) * Ideal.log ((Consts.floor : EReal) + y (ix2 i l))) + d (ix2 0 l))
        * Ideal.rsqrt (xs (ix2 i l) * Ideal.exp2 (na (ix2 0 l) * Ideal.log ((Consts.floor : EReal) + y (ix2 i l))) + d (ix2 0 l))
        - sd (ix2 0 l) := by
  pointwise [squash, base]
  rw [← Consts.floor_bits]
  rfl

/-- The value carried into chunk `q` is the recurrence's after the chunks before it. -/
theorem carry_apply (M : FVec Ideal S128x128 .bf16) (v : FVec Ideal S128x1 .f32) (e : FVec Ideal S1x128 .f32) (xs : ℕ → FVec Ideal S128x128 .f32)
    (X : ℕ → ℝ) (e₀ : ℝ) (l : Fin 128) (hM : ∀ i k : Fin 128, M (ix2 i k) = ((Scan.weight i k : ℝ) : EReal))
    (hv : ∀ i : Fin 128, v (ix2 i 0) = (((24 / 25 : ℝ) ^ (i.val + 1) : ℝ) : EReal)) (he : e (ix2 0 l) = (e₀ : EReal))
    (hx : ∀ q < 128, ∀ k : Fin 128, xs q (ix2 k l) = ((X (128 * q + k) : ℝ) : EReal)) :
    ∀ q ≤ 128, carry M v e xs q (ix2 0 l) = ((Scan.ema X e₀ (128 * q) : ℝ) : EReal)
      ∧ (q < 128 → ∀ i : Fin 128, smooth M v (xs q) (carry M v e xs q) (ix2 i l) = ((Scan.ema X e₀ (128 * q + i + 1) : ℝ) : EReal)) := by
  have step : ∀ q < 128, carry M v e xs q (ix2 0 l) = ((Scan.ema X e₀ (128 * q) : ℝ) : EReal) →
      ∀ i : Fin 128, smooth M v (xs q) (carry M v e xs q) (ix2 i l) = ((Scan.ema X e₀ (128 * q + i + 1) : ℝ) : EReal) := by
    intro q hq hc i
    rw [smooth_apply, hc, hv i, Nat.add_assoc, Scan.ema_add, ← Scan.ema_row_coe 128 _ _ _ i.isLt]
    congr 1
    exact Finset.sum_congr rfl fun k _ => by rw [hM, hx q hq]
  intro q
  induction q with
  | zero => exact fun _ => ⟨he, fun h => step 0 h he⟩
  | succ q ih =>
    intro hq
    have hc : carry M v e xs (q + 1) (ix2 0 l) = ((Scan.ema X e₀ (128 * (q + 1)) : ℝ) : EReal) := by
      show lastRow (smooth M v (xs q) (carry M v e xs q)) (ix2 0 l) = _
      rw [lastRow_apply, (ih (by omega)).2 (by omega) 127]
      rfl
    exact ⟨hc, fun h => step (q + 1) h hc⟩

/-- Where the element of chunk `q` at a row and channel stands in the block. -/
theorem rows_idx (q : ℕ) (hq : q < 128) (i l : Fin 128) (h : 128 * q + i.val < 16384) :
    (rows q).idx (ix3 0 i l) = ix3 0 ⟨128 * q + i.val, h⟩ l := by
  funext a
  apply Fin.ext
  rw [Rect.idx_unit_val]
  have h0 : 0 + 0 = 0 := rfl
  have h1 : 128 * (q % 128) + i.val = 128 * q + i.val := by rw [Nat.mod_eq_of_lt hq]
  have h2 : 0 + l.val = l.val := Nat.zero_add _
  exact Fin.cases h0 (fun a => Fin.cases h1 (fun a => Fin.cases h2 (fun a => a.elim0) a) a) a

/-- Dropping the unit axis of a chunk. -/
theorem drop_apply (w : Vec Ideal S1x128x128 .f32) (i l : Fin 128) :
    shapeCast S128x128 w shapeCasts_S1x128x128_S128x128 (ix2 i l) = w (ix3 0 i l) := by
  pointwise

/-- The chunk `q` of a block at a row and channel. -/
theorem chunk_apply (x : Vec Ideal S1x16384x128 .f32) (q : ℕ) (hq : q < 128) (i l : Fin 128) (h : 128 * q + i.val < 16384) :
    chunk x q (ix2 i l) = x (ix3 0 ⟨128 * q + i.val, h⟩ l) := by
  rw [← rows_idx q hq i l h]
  exact drop_apply _ i l

/-- An index of a chunk's store is a row and a channel. -/
theorem unit_idx (x : S1x128x128.Idx) : ∃ i j : Fin 128, x = ix3 0 i j := by
  idx_vars x
  exact ⟨_, _, by rw [Fin.eq_zero x0]⟩

/-- The block the chunks' stores leave is `G`, once each chunk's store is `G` on its rows. -/
theorem canon_stores (M : FVec Ideal S128x128 .bf16) (v : FVec Ideal S128x1 .f32) (e na d sd : FVec Ideal S1x128 .f32) (xs : ℕ → FVec Ideal S128x128 .f32)
    (G : Fin 16384 → Fin 128 → EReal)
    (h : ∀ (q : ℕ) (hq : q < 128) (i l : Fin 128),
      squash na d sd (xs q) (smooth M v (xs q) (carry M v e xs q)) (ix3 0 i l) = G ⟨128 * q + i.val, by omega⟩ l)
    (t : Fin 16384) (l : Fin 128) :
    View.canon (stores M v e na d sd xs 128) (ix3 0 t l) = G t l := by
  refine View.canon_apply_of_pieces (Val := Elt Ideal) (e := .f32) (fun y : S1x16384x128.Idx => (G (y 1) (y 2) : EReal)) _ ?_ (ix3 0 t l) ?_
  · have key : ∀ n ≤ 128, ∀ p ∈ stores M v e na d sd xs n, ∀ x : p.1.shape.Idx, p.2 x = G (p.1.emb x 1) (p.1.emb x 2) := by
      intro n
      induction n with
      | zero => exact fun _ p hp => absurd hp List.not_mem_nil
      | succ q ih =>
        intro hn p hp
        rcases List.mem_cons.mp hp with rfl | hp
        · intro x
          obtain ⟨i, j, rfl⟩ := unit_idx x
          have hr := rows_idx q (by omega) i j (by omega)
          rw [show (rows q).emb (ix3 0 i j) = (rows q).idx (ix3 0 i j) from rfl, hr]
          exact h q (by omega) i j
        · exact ih (by omega) p hp
    exact key 128 le_rfl
  · have key : ∀ n ≤ 128, t.val < 128 * n → ∃ p ∈ stores M v e na d sd xs n, (ix3 0 t l : S1x16384x128.Idx) ∈ p.1.set := by
      intro n
      induction n with
      | zero => exact fun _ h => absurd h (by omega)
      | succ q ih =>
        intro hn ht
        by_cases hq : t.val < 128 * q
        · obtain ⟨p, hp, hy⟩ := ih (by omega) hq
          exact ⟨p, List.mem_cons_of_mem _ hp, hy⟩
        · refine ⟨_, List.mem_cons_self, ?_⟩
          have hr := rows_idx q (by omega) ⟨t.val - 128 * q, by omega⟩ l (by show 128 * q + (t.val - 128 * q) < 16384; omega)
          rw [show (ix3 0 t l : S1x16384x128.Idx) = (rows q).idx (ix3 0 ⟨t.val - 128 * q, by omega⟩ l) from by
            rw [hr]; congr 1; apply Fin.ext; show t.val = 128 * q + (t.val - 128 * q); omega]
          exact LoadRect.idx_mem _ _
    exact key 128 le_rfl t.isLt

end Cert.KernelIdeal.Chunks

end
-- ==== Proof.KernelBlock.lean ====
/- One block of the kernel's result, element by element. -/
module

public import proofs.«01_k».proof.Proof.Smooth

@[expose] public section

set_option maxRecDepth 16384

noncomputable section

namespace Cert.KernelIdeal.Chunks

open Cert.KernelIdeal Cert.KernelIdeal.Gen Idealize.ShloMosaic Idealize.ShloMosaic.TcCoe Idealize.SL.Sem

/-- The exponents' row as the body reads it: capped at one and scaled by the named constant. -/
theorem pay1_apply (w : Vec Ideal S1x128 .f32) (l : Fin 128) :
    k0_pay1 (View.ld w r0_0) (ix2 0 l) = min (w (ix2 0 l)) ((1 : ℝ) : EReal) * ((-((Real.log 2)⁻¹) : ℝ) : EReal) := by
  have e : Named.named (F := Ideal) κ "neg_log2_e" (φ := .f32) 0xBFB8AA3B#32 = ((-((Real.log 2)⁻¹) : ℝ) : EReal) :=
    IdealRules.named_const.ideal_named_scalar _ _ _ _ rfl
  pointwise [k0_pay1]
  rw [e, EReal.coe_one]

/-- The offsets' row as the body reads it. -/
theorem pay2_apply (w : Vec Ideal S1x128 .f32) (l : Fin 128) : k0_pay2 (View.ld w r0_0) (ix2 0 l) = w (ix2 0 l) := by
  pointwise [k0_pay2]

/-- The roots of the offsets. -/
theorem pay3_apply (w : Vec Ideal S1x128 .f32) (l : Fin 128) : k0_pay3 (View.ld w r0_0) (ix2 0 l) = Ideal.sqrt (w (ix2 0 l)) := by
  pointwise [k0_pay3, k0_pay2]

/-- The weights as the body reads them. -/
theorem pay4_apply (w : Vec Ideal S128x128 .bf16) (i k : Fin 128) : k0_pay4 (View.ld w r0_1) (ix2 i k) = w (ix2 i k) := by
  pointwise [k0_pay4]

/-- The decays as the body reads them. -/
theorem pay5_apply (w : Vec Ideal S128x1 .f32) (i : Fin 128) : k0_pay5 (View.ld w r0_2) (ix2 i 0) = w (ix2 i 0) := by
  pointwise [k0_pay5]

/-- The row carried into the first chunk: the block's first row. -/
theorem pay6_apply (w : Vec Ideal S1x16384x128 .f32) (l : Fin 128) : k0_pay6 (View.ld w r0_3) (ix2 0 l) = w (ix3 0 0 l) := by
  pointwise [k0_pay6]

/-- The block the body leaves from batch entry `b`'s inputs holds the result of that batch entry. -/
theorem block_at {x : (⟨3, ![8, 16384, 128]⟩ : Shape).Idx → EReal} {α δ root : (⟨1, ![128]⟩ : Shape).Idx → EReal} (h : Result.Good x α δ root)
    (b : Fin 8) (x0 : Vec Ideal S1x16384x128 .f32) (x1 : Vec Ideal S128x128 .bf16) (x2 : Vec Ideal S128x1 .f32) (x3 x4 : Vec Ideal S1x128 .f32)
    (h0 : ∀ t l, x0 (ix3 0 t l) = x (ix3 b t l)) (h1 : ∀ i k : Fin 128, x1 (ix2 i k) = ((Scan.weight i k : ℝ) : EReal))
    (h2 : ∀ i : Fin 128, x2 (ix2 i 0) = (((24 / 25 : ℝ) ^ (i.val + 1) : ℝ) : EReal))
    (h3 : ∀ l, x3 (ix2 0 l) = α (ix1 l)) (h4 : ∀ l, x4 (ix2 0 l) = δ (ix1 l)) (t : Fin 16384) (l : Fin 128) :
    out0_5 x0 x1 x2 x3 x4 (ix3 0 t l) = Result.at_ x α δ b t l := by
  rw [out_eq]
  refine canon_stores _ _ _ _ _ _ _ (fun t l => Result.at_ x α δ b t l) ?_ t l
  intro q hq i l
  have hx : ∀ q < 128, ∀ k : Fin 128, chunk x0 q (ix2 k l) = ((Result.series x b l (128 * q + k) : ℝ) : EReal) := by
    intro q hq k
    rw [chunk_apply x0 q hq k l (by omega), h0]
    exact h.series_eq b ⟨128 * q + k.val, by omega⟩ l
  have hs := (carry_apply (k0_pay4 (View.ld x1 r0_1)) (k0_pay5 (View.ld x2 r0_2)) (k0_pay6 (View.ld x0 r0_3)) (chunk x0)
    (Result.series x b l) (Result.series x b l 0) l (fun i k => by rw [pay4_apply, h1]) (fun i => by rw [pay5_apply, h2])
    (by rw [pay6_apply, h0]; exact h.series_eq b 0 l) hx q hq.le).2 hq i
  rw [squash_apply, hs, pay1_apply, pay2_apply, pay3_apply, chunk_apply x0 q hq i l (by omega), h0, h3, h4]
  exact h.kernel_form b ⟨128 * q + i.val, by omega⟩ l

end Cert.KernelIdeal.Chunks

end
-- ==== Proof.Host.lean ====
/- The arrays the kernel's launch is given, read at an index: the weights, the decays, the exponents and the offsets. -/
module

public import proofs.«01_k».proof.Proof.Gen.KernelIdeal.Frame
public import proofs.«01_k».proof.Proof.Result
public import Idealize.ShloMosaic.Lib.Pointwise
public import Idealize.ShloMosaic.Lib.StableHlo.ReadAt

@[expose] public section

set_option maxRecDepth 16384

noncomputable section

namespace Cert.KernelIdeal.Host

open Cert.KernelIdeal Cert.KernelIdeal.Gen Idealize.ShloMosaic Idealize.ShloMosaic.TcCoe Idealize.SL.Sem

/-- A small word, read signed, is its number. -/
theorem toInt_row (i : Fin 128) : (BitVec.ofNat 32 i.val).toInt = i.val := by
  have hi := i.isLt
  rw [BitVec.toInt_eq_toNat_of_lt (by rw [BitVec.toNat_ofNat]; omega), BitVec.toNat_ofNat]
  omega

/-- The signed difference of two small words is the difference of the numbers. -/
theorem toInt_sub (i k : Fin 128) : (IntOp.subi (BitVec.ofNat 32 i.val) (BitVec.ofNat 32 k.val)).toInt = (i.val : ℤ) - k.val := by
  have hi := i.isLt
  have hk := k.isLt
  show (BitVec.ofNat 32 i.val - BitVec.ofNat 32 k.val).toInt = _
  rw [BitVec.toInt_sub, toInt_row, toInt_row]
  simp only [Int.bmod]
  omega

/-- The difference of two rows as an extended real. -/
theorem diff_eq (i k : Fin 128) : (FloatOps.sitofp (F := Ideal) FTy.f32 (IntOp.subi (BitVec.ofNat 32 i.val) (BitVec.ofNat 32 k.val)) : EReal)
    = (((i.val : ℝ) - (k.val : ℝ) : ℝ) : EReal) := by
  show ((((IntOp.subi (BitVec.ofNat 32 i.val) (BitVec.ofNat 32 k.val)).toInt : ℝ)) : EReal) = _
  rw [toInt_sub]
  push_cast
  rfl

/-- A row's number as an extended real. -/
theorem row_eq (i : Fin 128) : (FloatOps.sitofp (F := Ideal) FTy.f32 (BitVec.ofNat 32 i.val) : EReal) = ((i.val : ℝ) : EReal) := by
  show (((BitVec.ofNat 32 i.val).toInt : ℝ) : EReal) = _
  rw [toInt_row]
  push_cast
  rfl

/-- A natural power of the decay on the extended reals. -/
theorem pow_nat (n : ℕ) : Ideal.pow ((24 / 25 : ℝ) : EReal) ((n : ℝ) : EReal) = (((24 / 25 : ℝ) ^ n : ℝ) : EReal) := by
  rw [Ideal.pow_coe_coe]
  exact congrArg _ (Real.rpow_natCast _ _)

variable (m : (ℓ : Loc nD τ sig) → Buf (Elt Ideal) ℓ) (c : Dev nD)

/-- The weights' array holds the weight of each input row in each row smoothed. -/
theorem weights (i k : Fin 128) : V m c main_call0_v24 (ix2 i k) = ((Scan.weight i k : ℝ) : EReal) := by
  unfold V
  after_reads_at
  rw [diff_eq, Consts.four, Consts.hundred, Consts.rate, ← EReal.coe_one, Consts.decay, ← EReal.coe_zero, Scan.weight]
  by_cases h : k.val ≤ i.val
  · have hd : (i.val : ℝ) - (k.val : ℝ) = ((i.val - k.val : ℕ) : ℝ) := by rw [Nat.cast_sub h]
    rw [hd, if_pos (EReal.coe_le_coe_iff.mpr (Nat.cast_nonneg _)), max_eq_left (EReal.coe_le_coe_iff.mpr (Nat.cast_nonneg _)), pow_nat, if_pos h,
      EReal.coe_mul]
  · have hd : ¬ (0 : ℝ) ≤ (i.val : ℝ) - (k.val : ℝ) := by
      rw [sub_nonneg, Nat.cast_le]
      exact h
    rw [if_neg fun h' => hd (EReal.coe_le_coe_iff.mp h'), if_neg h]
    exact Consts.zero

/-- The decays' array holds the decay of the row carried in at each row smoothed. -/
theorem decays (i : Fin 128) : V m c main_call0_v23 (ix2 i 0) = (((24 / 25 : ℝ) ^ (i.val + 1) : ℝ) : EReal) := by
  unfold V
  after_reads_at
  rw [row_eq, Consts.four, Consts.hundred, Consts.rate, ← EReal.coe_one, Consts.decay, ← EReal.coe_add, ← Nat.cast_succ, pow_nat]

/-- The exponents' row holds the exponents. -/
theorem alphas (l : Fin 128) : V m c main_call0_v25 (ix2 0 l) = m ((c : Thread nD τ).loc main_arg1) (ix1 l) := by
  unfold V
  after_reads_at

/-- The offsets' row holds the offsets. -/
theorem deltas (l : Fin 128) : V m c main_call0_v26 (ix2 0 l) = m ((c : Thread nD τ).loc main_arg2) (ix1 l) := by
  unfold V
  after_reads_at

end Cert.KernelIdeal.Host

end
-- ==== Proof.KernelValue.lean ====
/- The kernel's result array. -/
module

public import proofs.«01_k».proof.Proof.KernelBlock
public import proofs.«01_k».proof.Proof.Host
public import proofs.«01_k».proof.Proof.Gen.KernelIdeal.Value

@[expose] public section

set_option maxRecDepth 16384

noncomputable section

namespace Cert.KernelIdeal.Chunks

open Cert.KernelIdeal Cert.KernelIdeal.Gen Idealize.ShloMosaic Idealize.ShloMosaic.TcCoe Idealize.SL.Sem

variable (m : (ℓ : Loc nD τ sig) → Buf (Elt Ideal) ℓ) (c : Dev nD)

/-- An index of a block is a row and a channel. -/
theorem block_idx (x : S1x16384x128.Idx) : ∃ (t : Fin 16384) (l : Fin 128), x = ix3 0 t l := by
  idx_vars x
  exact ⟨_, _, by rw [Fin.eq_zero x0]⟩

/-- The input's block at a grid point is its batch entry. -/
theorem input_block (t : Fin grid0.N) (r : Fin 16384) (l : Fin 128) :
    iblk m c 0 t (ix3 0 r l) = m ((c : Thread nD τ).loc main_arg0) (ix3 (grid0.coords t 0) r l) := by
  have e : ∀ t : Fin grid0.N, win0_0.index t = ![(grid0.coords t 0).val, 0, 0] := by decide +kernel
  have hx : (win0_0.blk t).view.emb (ix3 0 r l) = ix3 (grid0.coords t 0) r l := by blk_ext [e]
  blk_simp [iblk]
  rw [hx]
  exact congrFun (V_main_arg0 m c) _

/-- The weights' block is the weights. -/
theorem weights_block (t : Fin grid0.N) (i k : Fin 128) : iblk m c 1 t (ix2 i k) = ((Scan.weight i k : ℝ) : EReal) := by
  have e : ∀ t : Fin grid0.N, win0_1.index t = ![0, 0] := by decide +kernel
  have hx : (win0_1.blk t).view.emb (ix2 i k) = ix2 i k := by blk_ext [e]
  blk_simp [iblk]
  rw [hx]
  exact Host.weights m c i k

/-- The decays' block is the decays. -/
theorem decays_block (t : Fin grid0.N) (i : Fin 128) : iblk m c 2 t (ix2 i 0) = (((24 / 25 : ℝ) ^ (i.val + 1) : ℝ) : EReal) := by
  have e : ∀ t : Fin grid0.N, win0_2.index t = ![0, 0] := by decide +kernel
  have hx : (win0_2.blk t).view.emb (ix2 i 0) = ix2 i 0 := by blk_ext [e]
  blk_simp [iblk]
  rw [hx]
  exact Host.decays m c i

/-- The exponents' block is the exponents. -/
theorem alphas_block (t : Fin grid0.N) (l : Fin 128) : iblk m c 3 t (ix2 0 l) = m ((c : Thread nD τ).loc main_arg1) (ix1 l) := by
  have e : ∀ t : Fin grid0.N, win0_3.index t = ![0, 0] := by decide +kernel
  have hx : (win0_3.blk t).view.emb (ix2 0 l) = ix2 0 l := by blk_ext [e]
  blk_simp [iblk]
  rw [hx]
  exact Host.alphas m c l

/-- The offsets' block is the offsets. -/
theorem deltas_block (t : Fin grid0.N) (l : Fin 128) : iblk m c 4 t (ix2 0 l) = m ((c : Thread nD τ).loc main_arg2) (ix1 l) := by
  have e : ∀ t : Fin grid0.N, win0_4.index t = ![0, 0] := by decide +kernel
  have hx : (win0_4.blk t).view.emb (ix2 0 l) = ix2 0 l := by blk_ext [e]
  blk_simp [iblk]
  rw [hx]
  exact Host.deltas m c l

/-- The kernel's result array after its run is the result of its arguments. -/
theorem result_eq {root : Vec Ideal S128 .f32}
    (h : Result.Good (m ((c : Thread nD τ).loc main_arg0)) (m ((c : Thread nD τ).loc main_arg1)) (m ((c : Thread nD τ).loc main_arg2)) root) :
    (dats m 0 c).arrAt 5 cfg0.N = Result.whole (m ((c : Thread nD τ).loc main_arg0)) (m ((c : Thread nD τ).loc main_arg1)) (m ((c : Thread nD τ).loc main_arg2)) := by
  have e : ∀ t : Fin grid0.N, win0_5.index t = ![(grid0.coords t 0).val, 0, 0] := by decide +kernel
  refine (dats m 0 c).arrAt_eq_of_covers 5 _ (by decide +kernel) fun t hf y => ?_
  blk_simp [e]
  rw [after0_5]
  obtain ⟨r, l, rfl⟩ := block_idx y
  have hy : (win0_5.blk t).view.emb (ix3 0 r l) = ix3 (grid0.coords t 0) r l := by blk_ext [e]
  rw [hy]
  exact block_at h (grid0.coords t 0) _ _ _ _ _ (input_block m c t) (weights_block m c t) (decays_block m c t) (alphas_block m c t)
    (deltas_block m c t) r l

end Cert.KernelIdeal.Chunks

end
-- ==== Proof.RefLoop.lean ====
/- The reference's loop: after `k` trips the state is the smoothed input at time `k`, and the rows written are those of the
   times before it. -/
module

public import proofs.«01_k».proof.Proof.Gen.ReferenceIdeal.Run
public import proofs.«01_k».proof.Proof.Result
public import Idealize.ShloMosaic.Lib.Pointwise
public import Idealize.ShloMosaic.Lib.StableHlo.ReadAt

@[expose] public section

set_option maxRecDepth 16384

noncomputable section

namespace Cert.ReferenceIdeal.Loop

open Cert.ReferenceIdeal Cert.ReferenceIdeal.Gen Cert.ReferenceIdeal.Value Idealize.ShloMosaic Idealize.ShloMosaic.TcCoe Idealize.SL.Sem
open Idealize.ShloMosaic.StableHlo

/-- The counter of a trip, read signed, is the trip's number. -/
theorem counter_toInt (k : ℕ) (hk : k < 16383) : (Scf.iv 0#32 1#32 k).toInt = k := by
  have : Scf.iv 0#32 1#32 k = BitVec.ofNat 32 k := by simp [Scf.iv]
  rw [this, BitVec.toInt_eq_toNat_of_lt (by rw [BitVec.toNat_ofNat]; omega), BitVec.toNat_ofNat]
  omega

/-- The starts a trip slices at: its number, and zero on the other axes. -/
abbrev starts (k : ℕ) : Fin 3 → ℤ :=
  fun a => ((![fun _ => Scf.iv 0#32 1#32 k, constantI S_ 32 0#32, constantI S_ 32 0#32] : Fin 3 → (⟨S_, .i32⟩ : BufTy).Contents (Elt Ideal)) a (Shape.Idx.first h_S_)).toInt

/-- Trip `k` reads and writes at row `k`: the first coordinate of its start. -/
theorem start0 (k : ℕ) (hk : k < 16383) : Host.clampedStart S16383x8x128 S1x8x128 rfl (starts k) 0 = k :=
  Host.clampedStart_of_le _ _ _ _ (counter_toInt k hk) (by show k + 1 ≤ 16383; omega)

/-- The second coordinate of a trip's start is zero. -/
theorem start1 (k : ℕ) : Host.clampedStart S16383x8x128 S1x8x128 rfl (starts k) 1 = 0 :=
  Host.clampedStart_of_le _ _ _ _ rfl (by decide)

/-- The third coordinate of a trip's start is zero. -/
theorem start2 (k : ℕ) : Host.clampedStart S16383x8x128 S1x8x128 rfl (starts k) 2 = 0 :=
  Host.clampedStart_of_le _ _ _ _ rfl (by decide)

/-- The row a trip reads. -/
theorem slice_apply (xs : FVec Ideal S16383x8x128 .f32) (k : ℕ) (hk : k < 16383) (b : Fin 8) (l : Fin 128) :
    Host.dynamicSlice S1x8x128 xs (starts k) sliceFits_S16383x8x128_S1x8x128 (ix3 0 b l) = xs (ix3 ⟨k, hk⟩ b l) := by
  rw [Host.dynamicSlice_apply]
  refine congrArg xs (funext fun a => Fin.ext ?_)
  have h0 : Host.clampedStart S16383x8x128 S1x8x128 rfl (starts k) 0 + 0 = k := start0 k hk
  have h1 : Host.clampedStart S16383x8x128 S1x8x128 rfl (starts k) 1 + b.val = b.val := by rw [start1, Nat.zero_add]
  have h2 : Host.clampedStart S16383x8x128 S1x8x128 rfl (starts k) 2 + l.val = l.val := by rw [start2, Nat.zero_add]
  exact Fin.cases h0 (fun a => Fin.cases h1 (fun a => Fin.cases h2 (fun a => a.elim0) a) a) a

/-- The rows after a trip writes its own. -/
theorem update_apply (ys : FVec Ideal S16383x8x128 .f32) (r : FVec Ideal S1x8x128 .f32) (k : ℕ) (hk : k < 16383) (j : Fin 16383) (b : Fin 8) (l : Fin 128) :
    Host.dynamicUpdateSlice ys r (starts k) updateFits_S16383x8x128_S1x8x128 (ix3 j b l) = if j.val = k then r (ix3 0 b l) else ys (ix3 j b l) := by
  rw [Host.dynamicUpdateSlice_apply]
  have e0 := start0 k hk
  have e1 := start1 k
  have e2 := start2 k
  by_cases h : j.val = k
  · rw [if_pos h, dif_pos]
    · refine congrArg r (funext fun a => Fin.ext ?_)
      have h0 : j.val - Host.clampedStart S16383x8x128 S1x8x128 rfl (starts k) 0 = 0 := by omega
      have h1 : b.val - Host.clampedStart S16383x8x128 S1x8x128 rfl (starts k) 1 = b.val := by omega
      have h2 : l.val - Host.clampedStart S16383x8x128 S1x8x128 rfl (starts k) 2 = l.val := by omega
      exact Fin.cases h0 (fun a => Fin.cases h1 (fun a => Fin.cases h2 (fun a => a.elim0) a) a) a
    · intro a
      have h0 : Host.clampedStart S16383x8x128 S1x8x128 rfl (starts k) 0 ≤ j.val ∧ j.val < Host.clampedStart S16383x8x128 S1x8x128 rfl (starts k) 0 + 1 := by omega
      have h1 : Host.clampedStart S16383x8x128 S1x8x128 rfl (starts k) 1 ≤ b.val ∧ b.val < Host.clampedStart S16383x8x128 S1x8x128 rfl (starts k) 1 + 8 := by omega
      have h2 : Host.clampedStart S16383x8x128 S1x8x128 rfl (starts k) 2 ≤ l.val ∧ l.val < Host.clampedStart S16383x8x128 S1x8x128 rfl (starts k) 2 + 128 := by omega
      exact Fin.cases h0 (fun a => Fin.cases h1 (fun a => Fin.cases h2 (fun a => a.elim0) a) a) a
  · rw [if_neg h, dif_neg]
    intro h'
    have h0 : Host.clampedStart S16383x8x128 S1x8x128 rfl (starts k) 0 ≤ j.val ∧ j.val < Host.clampedStart S16383x8x128 S1x8x128 rfl (starts k) 0 + 1 := h' 0
    omega

/-- A trip's new state at an entry and channel, of the rate, the row read and the state. -/
theorem mix_apply (s : FVec Ideal S_ .f32) (r : FVec Ideal S1x8x128 .f32) (st : FVec Ideal S8x128 .f32) (b : Fin 8) (l : Fin 128) :
    addf (mulf (broadcastInDim S8x128 ![] bcast_S_S8x128 s) (shapeCast S8x128 r shapeCasts_S1x8x128_S8x128))
        (mulf (broadcastInDim S8x128 ![] bcast_S_S8x128 (subf (constant S_ .f32 0x3F800000#32) s)) st) (ix2 b l)
      = s ix0 * r (ix3 0 b l) + (((1 : ℝ) : EReal) - s ix0) * st (ix2 b l) := by
  pointwise
  rw [EReal.coe_one]

/-- The row written from a state. -/
theorem row_apply (st : FVec Ideal S8x128 .f32) (b : Fin 8) (l : Fin 128) :
    broadcastInDim S1x8x128 ![1, 2] bcast_S8x128_S1x8x128_1_2 st (ix3 0 b l) = st (ix2 b l) := by
  pointwise

/-- The input with time first and its first row dropped. -/
theorem shifted_apply (x : FVec Ideal S8x16384x128 .f32) (j : Fin 16383) (b : Fin 8) (l : Fin 128) :
    extractStridedSlice S16383x8x128 ![1, 0, 0] (transpose S16384x8x128 [1, 0, 2] x transposes_S8x16384x128_S16384x8x128_1_0_2)
      slices_S16384x8x128_S16383x8x128_1_0_0 (ix3 j b l) = x (ix3 b ⟨j.val + 1, by omega⟩ l) := by
  pointwise
  exact congrArg x (congrArg (ix3 b · l) (Fin.ext (Nat.add_comm _ _)))

variable (m : (ℓ : Loc nD τ sig) → Buf (Elt Ideal) ℓ) (c : Dev nD)

/-- The loop's input: the times from one on. -/
theorem entry_input (j : Fin 16383) (b : Fin 8) (l : Fin 128) :
    entryContents preI m c (Proc.devRef .tc main_v10_0) (ix3 j b l) = m ((c : Thread nD τ).loc main_arg0) (ix3 b ⟨j.val + 1, by omega⟩ l) := by
  simp only [entryContents, afterL_cons, afterL_nil]
  after_reads_at
  exact shifted_apply _ j b l

/-- The loop's rate. -/
theorem entry_rate : entryContents preI m c (Proc.devRef .tc main_v10_1) ix0 = ((1 / 25 : ℝ) : EReal) := by
  simp only [entryContents, afterL_cons, afterL_nil]
  after_reads_at
  show Ideal.div (Ideal.ofBits .f32 0x40800000#32) (Ideal.ofBits .f32 0x42C80000#32) = _
  rw [Consts.four, Consts.hundred, Consts.rate]

/-- The loop's first state: the input at time zero. -/
theorem entry_state (b : Fin 8) (l : Fin 128) :
    entryContents preI m c (Proc.devRef .tc main_v10_3) (ix2 b l) = m ((c : Thread nD τ).loc main_arg0) (ix3 b 0 l) := by
  simp only [entryContents, afterL_cons, afterL_nil]
  after_reads_at
  rfl

/-- A buffer no trip writes holds at every trip what it held at the loop's entry. -/
theorem kept (r : Ref sig .tc) (h : r ∉ condOps_W ++ while0Ops0_W ++ while0Ops0_1_W ++ while0Ops0_2_W ++ while0Ops0_3_W) :
    ∀ k, atK m k c (Proc.devRef .tc r) = entryContents preI m c (Proc.devRef .tc r)
  | 0 => rfl
  | k + 1 => by
    simp only [List.mem_append, not_or] at h
    obtain ⟨⟨⟨⟨hc, h0⟩, h1⟩, h2⟩, h3⟩ := h
    rw [show atK m (k + 1) c = afterL bodyI (after condOps (atK m k c)) from rfl]
    simp only [afterL_cons, afterL_nil]
    rw [after_of_writes_sub _ _ while0Ops0_3_writes h3, after_of_writes_sub _ _ while0Ops0_2_writes h2, after_of_writes_sub _ _ while0Ops0_1_writes h1,
      after_of_writes_sub _ _ while0Ops0_writes h0, after_of_writes_sub _ _ condOps_writes hc, kept r (by simp only [List.mem_append, not_or]; exact ⟨⟨⟨⟨hc, h0⟩, h1⟩, h2⟩, h3⟩) k]
    rfl

/-- The loop's input and rate are at every trip those of the loop's entry. -/
theorem carried : ∀ k, atK m k c (Proc.devRef .tc main_v10_0) = entryContents preI m c (Proc.devRef .tc main_v10_0)
    ∧ atK m k c (Proc.devRef .tc main_v10_1) = entryContents preI m c (Proc.devRef .tc main_v10_1) :=
  fun k => ⟨kept m c main_v10_0 (by decide) k, kept m c main_v10_1 (by decide) k⟩

/-- After `k` trips the state is the smoothed input at time `k`, and each row written is the smoothed input one time later. -/
theorem trips {α δ root : FVec Ideal S128 .f32} (h : Result.Good (m ((c : Thread nD τ).loc main_arg0)) α δ root) (b : Fin 8) (l : Fin 128) :
    ∀ k ≤ 16383, (atK m k c (Proc.devRef .tc main_v10_3) : FVec Ideal S8x128 .f32) (ix2 b l)
        = ((Result.smoothed (m ((c : Thread nD τ).loc main_arg0)) b l k : ℝ) : EReal)
      ∧ ∀ j : Fin 16383, j.val < k → (atK m k c (Proc.devRef .tc main_v10_4) : FVec Ideal S16383x8x128 .f32) (ix3 j b l)
        = ((Result.smoothed (m ((c : Thread nD τ).loc main_arg0)) b l (j.val + 1) : ℝ) : EReal) := by
  intro k
  induction k with
  | zero =>
    refine fun _ => ⟨?_, fun j hj => absurd hj (Nat.not_lt_zero _)⟩
    refine (entry_state m c b l).trans ?_
    rw [h.series_eq b 0 l]
    exact congrArg _ (Scan.ema_one _).symm
  | succ k ih =>
    intro hk
    obtain ⟨hs, hr⟩ := ih (by omega)
    have hn : (res_main_while0b_v38 (atK m k c) : FVec Ideal S8x128 .f32) (ix2 b l)
        = ((Result.smoothed (m ((c : Thread nD τ).loc main_arg0)) b l (k + 1) : ℝ) : EReal) := by
      unfold res_main_while0b_v38
      rw [atK_ctr]
      refine (mix_apply _ _ _ b l).trans ?_
      refine (congrArg (fun r : EReal => _ * r + _) (slice_apply _ k hk b l)).trans ?_
      rw [hs, carried m c k |>.1, carried m c k |>.2, entry_input, entry_rate, h.series_eq b ⟨k + 1, by omega⟩ l, Consts.decay,
        ← EReal.coe_mul, ← EReal.coe_mul, ← EReal.coe_add]
      rfl
    have step := trip_agree (atK m k c)
    refine ⟨?_, fun j hj => ?_⟩
    · refine (congrFun ((step main_v10_3 (by decide)).trans (STEP_main_v10_3 _)) (ix2 b l)).trans hn
    · refine (congrFun ((step main_v10_4 (by decide)).trans (STEP_main_v10_4 _)) (ix3 j b l)).trans ?_
      unfold step_main_v10_4
      rw [atK_ctr]
      refine (update_apply _ _ k hk j b l).trans ?_
      rw [row_apply, hn]
      split
      · next e => rw [e]
      · exact hr j (by omega)

end Cert.ReferenceIdeal.Loop

end
-- ==== Proof.RefValue.lean ====
/- The reference's result array. -/
module

public import proofs.«01_k».proof.Proof.RefLoop

@[expose] public section

set_option maxRecDepth 16384

noncomputable section

namespace Cert.ReferenceIdeal.Loop

open Cert.ReferenceIdeal Cert.ReferenceIdeal.Gen Cert.ReferenceIdeal.Value Idealize.ShloMosaic Idealize.ShloMosaic.TcCoe Idealize.SL.Sem
open Idealize.ShloMosaic.StableHlo

/-- The result at an entry, time and channel, of the contents after the loop. -/
theorem form_apply (W : Valuation τ sig (Elt Ideal)) (b : Fin 8) (t : Fin 16384) (l : Fin 128) (x δ y a ρ : EReal)
    (hx : (W (Proc.devRef .tc main_arg0) : FVec Ideal S8x16384x128 .f32) (ix3 b t l) = x)
    (hδ : (W (Proc.devRef .tc main_arg2) : FVec Ideal S128 .f32) (ix1 l) = δ)
    (ha : (W (Proc.devRef .tc main_v1) : FVec Ideal S128 .f32) (ix1 l) = a)
    (hρ : (W (Proc.devRef .tc main_v3) : FVec Ideal S128 .f32) (ix1 l) = ρ)
    (hy0 : t.val = 0 → (W (Proc.devRef .tc main_v7) : FVec Ideal S8x128 .f32) (ix2 b l) = y)
    (hy1 : ∀ h : t.val ≠ 0, (W (Proc.devRef .tc main_v10_4) : FVec Ideal S16383x8x128 .f32) (ix3 ⟨t.val - 1, by omega⟩ b l) = y) :
    (afterL postI W (Proc.devRef .tc main_v31) : FVec Ideal S8x16384x128 .f32) (ix3 b t l)
      = Ideal.pow (Ideal.div x (Ideal.pow ((Consts.floor : EReal) + y) a) + δ) (Ideal.div ((1 : ℝ) : EReal) ρ)
        - Ideal.pow δ (Ideal.div ((1 : ℝ) : EReal) ρ) := by
  simp only [afterL_cons, afterL_nil]
  after_reads_at
  rw [hx, hδ, ha, hρ, Consts.floor_bits, EReal.coe_one]
  congr 5
  split
  · next h =>
    have e : (upto hostOps0_1 W 1 (Proc.devRef .tc main_v11) : FVec Ideal S1x8x128 .f32) = broadcastInDim S1x8x128 ![1, 2] bcast_S8x128_S1x8x128_1_2 (W (Proc.devRef .tc main_v7)) := by
      simp only [upto, List.take]
      after_results
    rw [← hy0 (by omega), e]
    have ht : (⟨t.val, h⟩ : Fin 1) = 0 := Fin.eq_zero _
    rw [ht]
    exact congrArg (fun y : EReal => (Consts.floor : EReal) + y) (row_apply _ b l)
  · next h =>
    have e : upto hostOps0_1 W 1 (Proc.devRef .tc main_v10_4) = W (Proc.devRef .tc main_v10_4) := by
      simp only [upto, List.take]
      after_results
    rw [e]
    exact congrArg (fun y : EReal => (Consts.floor : EReal) + y) (hy1 (by omega))

variable (m : (ℓ : Loc nD τ sig) → Buf (Elt Ideal) ℓ) (c : Dev nD)

/-- Every buffer's contents after the loop. -/
abbrev done : Valuation τ sig (Elt Ideal) := after condOps (atK m 16383 c)

/-- A buffer the loop does not write holds after it what it held before it. -/
theorem done_kept (r : Ref sig .tc) (h : r ∉ condOps_W ++ while0Ops0_W ++ while0Ops0_1_W ++ while0Ops0_2_W ++ while0Ops0_3_W) :
    done m c (Proc.devRef .tc r) = entryContents preI m c (Proc.devRef .tc r) := by
  refine (after_of_writes_sub _ _ condOps_writes fun hc => h ?_).trans (kept m c r h 16383)
  simp only [List.mem_append]
  exact Or.inl (Or.inl (Or.inl (Or.inl hc)))

/-- The first row is the input's. -/
theorem done_first (b : Fin 8) (l : Fin 128) :
    (done m c (Proc.devRef .tc main_v7) : FVec Ideal S8x128 .f32) (ix2 b l) = m ((c : Thread nD τ).loc main_arg0) (ix3 b 0 l) := by
  rw [done_kept m c main_v7 (by decide)]
  simp only [entryContents, afterL_cons, afterL_nil]
  after_reads_at

/-- The exponents are capped at one. -/
theorem done_alpha (l : Fin 128) : (done m c (Proc.devRef .tc main_v1) : FVec Ideal S128 .f32) (ix1 l)
    = min (α := EReal) (m ((c : Thread nD τ).loc main_arg1) (ix1 l)) ((1 : ℝ) : EReal) := by
  rw [done_kept m c main_v1 (by decide), EReal.coe_one]
  simp only [entryContents, afterL_cons, afterL_nil]
  after_reads_at

/-- The roots are at least one. -/
theorem done_root (l : Fin 128) : (done m c (Proc.devRef .tc main_v3) : FVec Ideal S128 .f32) (ix1 l)
    = max (α := EReal) (m ((c : Thread nD τ).loc main_arg3) (ix1 l)) ((1 : ℝ) : EReal) := by
  rw [done_kept m c main_v3 (by decide), EReal.coe_one]
  simp only [entryContents, afterL_cons, afterL_nil]
  after_reads_at

/-- An argument is after the loop what it was at the launch. -/
theorem done_arg (r : Ref sig .tc) (h : r ∉ condOps_W ++ while0Ops0_W ++ while0Ops0_1_W ++ while0Ops0_2_W ++ while0Ops0_3_W) (h0 : r ∉ hostOps0_W) :
    done m c (Proc.devRef .tc r) = m ((c : Thread nD τ).loc r) := by
  rw [done_kept m c r h]
  exact after_of_writes_sub _ _ hostOps0_writes h0

/-- The half that a root of two is. -/
theorem half : Ideal.div ((1 : ℝ) : EReal) (max ((2 : ℝ) : EReal) ((1 : ℝ) : EReal)) = ((1 / 2 : ℝ) : EReal) := by
  rw [max_eq_left (EReal.coe_le_coe_iff.mpr (by norm_num)), Ideal.div_coe (by norm_num), ← EReal.coe_mul]
  norm_num

/-- The reference's result array after its run is the result of its arguments. -/
theorem result_eq (h : Result.Good (m ((c : Thread nD τ).loc main_arg0)) (m ((c : Thread nD τ).loc main_arg1)) (m ((c : Thread nD τ).loc main_arg2))
      (m ((c : Thread nD τ).loc main_arg3))) :
    finalContents condOps preI bodyI postI 16383 m c (Proc.devRef .tc main_v31)
      = Result.whole (m ((c : Thread nD τ).loc main_arg0)) (m ((c : Thread nD τ).loc main_arg1)) (m ((c : Thread nD τ).loc main_arg2)) := by
  refine funext fun j => ?_
  obtain ⟨b, t, l, rfl⟩ : ∃ (b : Fin 8) (t : Fin 16384) (l : Fin 128), j = ix3 b t l := ⟨j 0, j 1, j 2, eq_ix3 j⟩
  refine (form_apply (done m c) b t l _ _ (Result.smoothed (m ((c : Thread nD τ).loc main_arg0)) b l t : EReal) _ _
    (congrFun (done_arg m c main_arg0 (by decide) (by decide)) _) (congrFun (done_arg m c main_arg2 (by decide) (by decide)) _)
    (done_alpha m c l) (done_root m c l) (fun e => ?_) (fun e => ?_)).trans ?_
  · rw [done_first m c b l, e, h.series_eq b 0 l]
    exact congrArg _ (Scan.ema_one _).symm
  · have hr := (trips m c h b l 16383 le_rfl).2 ⟨t.val - 1, by omega⟩ (by show t.val - 1 < 16383; omega)
    rw [show (⟨t.val - 1, _⟩ : Fin 16383).val + 1 = t.val from by show t.val - 1 + 1 = t.val; omega] at hr
    exact (congrFun (cond_keeps (atK m 16383 c) main_v10_4 (by decide)) _).trans hr
  · rw [h.root l, half, ← EReal.coe_add]
    rfl

end Cert.ReferenceIdeal.Loop

end
-- ==== Proof.RefRun.lean ====
/- The reference's run: its arguments and semaphores as launched, its result array. -/
module

public import proofs.«01_k».proof.Proof.RefValue
public import Idealize.ShloMosaic.Lib.Quiescent

@[expose] public section

set_option maxRecDepth 16384

noncomputable section

namespace Cert.ReferenceIdeal.Loop

open Cert.ReferenceIdeal Cert.ReferenceIdeal.Gen Cert.ReferenceIdeal.Value Idealize.ShloMosaic Idealize.ShloMosaic.TcCoe Idealize.SL.Sem
open Idealize.ShloMosaic.StableHlo

variable (m : (ℓ : Loc nD τ sig) → Buf (Elt Ideal) ℓ) (g : Dev nD → PrngReg)

/-- The reference each operation after the loop writes. -/
abbrev after_W : List (Ref sig .tc) :=
  [main_v11, main_v12, main_v13, main_cst_4, main_v14, main_v15, main_cst_5, main_v16, main_v17, main_v18, main_v19, main_v20, main_v21, main_v22,
    main_v23, main_v24, main_v25, main_v26, main_v27, main_v28, main_v29, main_v30, main_v31]

/-- Those are all the operations after the loop write. -/
theorem after_writes : (hostOps0_1 : List (HloOp τ sig (Elt Ideal))).Forall fun op => op.writes ⊆ (after_W.map (Proc.devRef (τ := τ) .tc)).toFinset :=
  StableHlo.forall_writes_sub_of_map rfl

/-- An argument ends as launched. -/
theorem arg_kept (c : Dev nD) (r : Ref sig .tc) (h : r ∉ condOps_W ++ while0Ops0_W ++ while0Ops0_1_W ++ while0Ops0_2_W ++ while0Ops0_3_W)
    (h0 : r ∉ hostOps0_W) (h1 : r ∉ after_W) :
    finalContents condOps preI bodyI postI 16383 m c (Proc.devRef .tc r) = m ((c : Thread nD τ).loc r) :=
  (after_of_writes_sub _ _ after_writes h1).trans (done_arg m c r h h0)

/-- The reference terminates with its result at the loop's fold and its arguments as launched. -/
theorem run : θ_run (defs (F := Ideal)) (onTc (τ := τ) (main (F := Ideal))) ⟨m, fun _ => 0, g⟩ fun r => ∀ c : Dev nD,
      r.2.mem ((c.tc : Thread nD τ).loc main_v31) = finalContents condOps preI bodyI postI 16383 m c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h c main_v31 rfl,
    (h c main_arg0 rfl).trans (arg_kept m c main_arg0 (by decide) (by decide) (by decide)),
    (h c main_arg1 rfl).trans (arg_kept m c main_arg1 (by decide) (by decide) (by decide)),
    (h c main_arg2 rfl).trans (arg_kept m c main_arg2 (by decide) (by decide) (by decide)),
    (h c main_arg3 rfl).trans (arg_kept m c main_arg3 (by decide) (by decide) (by decide))⟩) (run_fold m g)

/-- The reference terminates with its arguments as launched and every semaphore at zero. -/
theorem frame : θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2, Idealize.ShloMosaic.sem_eq_zero_of_no_sems (by decide) r.2⟩) (run m g)

end Cert.ReferenceIdeal.Loop

end
-- ==== Proof.Domain.lean ====
/- What the precondition says of the arguments, element by element. -/
module

public import proofs.«01_k».proof.Pre_domain
public import proofs.«01_k».proof.Proof.Result
public import Idealize.ShloMosaic.Lib.ReduceAll

@[expose] public section

set_option maxRecDepth 16384

noncomputable section

namespace Cert.Pre_domain

open Idealize.ShloMosaic

/-- The side conditions of the precondition's operations. -/
instance facts : Facts where
  bcast_S_S8x16384x128 := by decide
  reducesTo_S8x16384x128_S_d0_1_2 := by decide
  h_S_ := by decide
  bcast_S_S128 := by decide
  reducesTo_S128_S_d0 := by decide

/-- A comparison on the extended reals that came out 1 holds. -/
theorem of_true {p : Prop} [Decidable p] (h : BitVec.ofBool (decide p) = 1#1) : p := by
  by_contra hp
  rw [decide_eq_false hp] at h
  exact absurd h (by decide)

/-- Arguments of which the precondition holds have no negative and no infinite input, no exponent that is the negative
    infinity, no negative offset, and roots of two. -/
theorem good (x : FVec Ideal S8x16384x128 .f32) (α δ root : FVec Ideal S128 .f32) (h : fn x α δ root = fun _ => 1#1) :
    Result.Good x α δ root := by
  have hj := congrFun h ix0
  obtain ⟨h4, e5⟩ := IntOp.andi_eq_one.1 hj
  obtain ⟨h3, e4⟩ := IntOp.andi_eq_one.1 h4
  obtain ⟨h2, e3⟩ := IntOp.andi_eq_one.1 h3
  obtain ⟨e1, e2⟩ := IntOp.andi_eq_one.1 h2
  refine ⟨fun b t l => ?_, fun b t l => ?_, fun l => ?_, fun l => ?_, fun l => ?_⟩
  · have e : Ideal.ofBits .f32 0x00000000#32 ≤ x (ix3 b t l) := of_true (Host.reduce_andi_all _ _ _ _ _ e1 (ix3 b t l))
    rwa [Consts.zero, EReal.coe_zero] at e
  · have e : x (ix3 b t l) < Ideal.ofBits .f32 0x7F800000#32 := of_true (Host.reduce_andi_all _ _ _ _ _ e2 (ix3 b t l))
    rwa [Consts.top] at e
  · have e : Ideal.ofBits .f32 0xFF800000#32 < α (ix1 l) := of_true (Host.reduce_andi_all _ _ _ _ _ e3 (ix1 l))
    rwa [Consts.bot] at e
  · have e : Ideal.ofBits .f32 0x00000000#32 ≤ δ (ix1 l) := of_true (Host.reduce_andi_all _ _ _ _ _ e4 (ix1 l))
    rwa [Consts.zero, EReal.coe_zero] at e
  · have e : root (ix1 l) = Ideal.ofBits .f32 0x40000000#32 := of_true (Host.reduce_andi_all _ _ _ _ _ e5 (ix1 l))
    rwa [Consts.two] at e

end Cert.Pre_domain

end
-- ==== Proof.lean ====
/- The proof of the certificate's claim. Frames: each program terminates with its arguments as launched and every semaphore at
   zero. Preservation: the named constant. Value: from arguments in the domain, kernel and reference end at one result. -/
module

public import proofs.«01_k».proof.Defs
public import proofs.«01_k».proof.Proof.Gen.Kernel.Frame
public import proofs.«01_k».proof.Proof.KernelValue
public import proofs.«01_k».proof.Proof.RefRun
public import proofs.«01_k».proof.Proof.Domain

@[expose] public section

noncomputable section

namespace Cert.Proof

open Idealize.ShloMosaic Idealize.ShloMosaic.TcCoe Idealize.SL.Sem

/-- The kernel's result array and the reference's are one array, for arguments of which the precondition holds. -/
theorem value : Cert.algebraic_KernelIdeal_ReferenceIdeal_pre_domain := by
  intro m g m' g' hpre hagree
  refine ⟨fun c => Result.whole
    (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)), ?_, ?_⟩
  · exact (θ_run _ _ _).mono (fun _ h c => ⟨(h c).1.trans (KernelIdeal.Chunks.result_eq m c (Pre_domain.good _ _ _ _ (hpre c))), (h c).2⟩)
      (KernelIdeal.Value.run_blocks m g)
  · refine (θ_run _ _ _).mono (fun _ h c => ⟨(h c).1.trans ?_, (h c).2⟩) (ReferenceIdeal.Loop.run m' g')
    have hg := Pre_domain.good _ _ _ _ (hpre c)
    obtain ⟨e0, e1, e2, e3⟩ := hagree c
    rw [← e0, ← e1, ← e2, ← e3] at hg
    refine (ReferenceIdeal.Loop.result_eq m' c hg).trans ?_
    rw [e0, e1, e2]

/-- Every claim of the certificate. -/
theorem claim : Cert.Claim := ⟨Cert.Kernel.Gen.facts, Cert.KernelIdeal.Gen.facts, Cert.ReferenceIdeal.Gen.facts, Cert.Pre_domain.facts,
  fun m g _ => Cert.Kernel.Gen.frame m g, fun m g _ => Cert.KernelIdeal.Gen.frame m g, fun m g _ => Cert.KernelIdeal.Gen.frame m g,
  fun m g _ => Cert.ReferenceIdeal.Loop.frame m g, fun m g _ => Cert.ReferenceIdeal.Loop.frame m g,
  IdealRules.named_const.statement Cert.KernelIdeal.κ "neg_log2_e" .f32 0xBFB8AA3B#32 ((-((Real.log 2)⁻¹) : ℝ) : EReal) rfl, value⟩

end Cert.Proof

end
